-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_top_logit [hPre_finite_top_logit : Cert.Pre_finite_top_logit.Facts] (m : (ℓ : Loc Cert.KernelIdeal.nD Cert.KernelIdeal.τ Cert.KernelIdeal.sig) → Buf (Elt Ideal) ℓ) : Prop :=
  ∀ c : Dev Cert.KernelIdeal.nD,
    (Cert.Pre_finite_top_logit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_top_logit [hPre_finite_top_logit : Cert.Pre_finite_top_logit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_top_logit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_top_logit [hKernelIdeal : Cert.KernelIdeal.Facts] [hPre_finite_top_logit : Cert.Pre_finite_top_logit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_top_logit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_top_logit [hReferenceIdeal : Cert.ReferenceIdeal.Facts] [hPre_finite_top_logit : Cert.Pre_finite_top_logit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_top_logit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_top_logit [hKernelIdeal : Cert.KernelIdeal.Facts] [hReferenceIdeal : Cert.ReferenceIdeal.Facts] [hPre_finite_top_logit : Cert.Pre_finite_top_logit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_top_logit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_top_logit : Cert.Pre_finite_top_logit.Facts),
    quiescent_Kernel (hKernel := hKernel)
    ∧ quiescent_KernelIdeal (hKernelIdeal := hKernelIdeal)
    ∧ quiescent_KernelIdeal_pre_finite_top_logit (hKernelIdeal := hKernelIdeal) (hPre_finite_top_logit := hPre_finite_top_logit)
    ∧ quiescent_ReferenceIdeal (hReferenceIdeal := hReferenceIdeal)
    ∧ quiescent_ReferenceIdeal_pre_finite_top_logit (hReferenceIdeal := hReferenceIdeal) (hPre_finite_top_logit := hPre_finite_top_logit)
    ∧ preserves_Kernel_KernelIdeal
    ∧ algebraic_KernelIdeal_ReferenceIdeal_pre_finite_top_logit (hKernelIdeal := hKernelIdeal) (hReferenceIdeal := hReferenceIdeal) (hPre_finite_top_logit := hPre_finite_top_logit)
-- ==== Pre_finite_top_logit.lean ====
abbrev S2x2048x1024 : Shape := ⟨3, ![2, 2048, 1024]⟩
abbrev S1024x8 : Shape := ⟨2, ![1024, 8]⟩
abbrev S8x1024x1024 : Shape := ⟨3, ![8, 1024, 1024]⟩
abbrev S8x1024 : Shape := ⟨2, ![8, 1024]⟩
abbrev S4096x1024 : Shape := ⟨2, ![4096, 1024]⟩
abbrev S4096x8 : Shape := ⟨2, ![4096, 8]⟩
abbrev S_ : Shape := ⟨0, ![]⟩
abbrev S4096 : Shape := ⟨1, ![4096]⟩

class Facts : Prop where
  shapeCasts_S2x2048x1024_S4096x1024 : S2x2048x1024.ShapeCasts S4096x1024
  reducesTo_S4096x8_S4096_d1 : S4096x8.ReducesTo [1] S4096
  h_S_ : 0 < S_.numel
  bcast_S_S4096 : S_.BroadcastsInDim S4096 (![] : Fin 0 → Fin S4096.rank)
  reducesTo_S4096_S_d0 : S4096.ReducesTo [0] S_
  dot_S4096x1024_S1024x8_S4096x8_1_0_0_1_n_n_wf : DotDims.WF S4096x1024 S1024x8 S4096x8 [1] [0] [0] [1] [] []

variable [Facts]

def dot_S4096x1024_S1024x8_S4096x8_1_0_0_1_n_n : DotDims S4096x1024 S1024x8 S4096x8 where
  lhsContracting := [1]
  rhsContracting := [0]
  lhsNonContracting := [0]
  rhsNonContracting := [1]
  lhsBatch := []
  rhsBatch := []
  wf := dot_S4096x1024_S1024x8_S4096x8_1_0_0_1_n_n_wf
def fn {F : FTy → Type} [FloatOps F] (main_arg0 : FVec F S2x2048x1024 .f32) (main_arg1 : FVec F S1024x8 .f32) (main_arg2 : FVec F S8x1024x1024 .f32) (main_arg3 : FVec F S8x1024 .f32) : IVec S_ 1 :=
  let main_v0 : FVec F S4096x1024 .f32 := shapeCast S4096x1024 main_arg0 shapeCasts_S2x2048x1024_S4096x1024
  let main_v1 : FVec F S4096x8 .f32 := (fun l r => Host.dotGeneral dot_S4096x1024_S1024x8_S4096x8_1_0_0_1_n_n none l r) main_v0 main_arg1
  let main_cst : FVec F S_ .f32 := constant S_ .f32 0xFF800000#32
  let main_v2 : FVec F S4096 .f32 := (fun x v => Host.reduce FloatOps.maximumf x v reducesTo_S4096x8_S4096_d1 h_S_) main_v1 main_cst
  let main_v3 : FVec F S4096 .f32 := Host.absf main_v2
  let main_cst_0 : FVec F S_ .f32 := constant S_ .f32 0x7F800000#32
  let main_v4 : FVec F S4096 .f32 := broadcastInDim S4096 ![] bcast_S_S4096 main_cst_0
  let main_v5 : IVec S4096 1 := cmpf .olt main_v3 main_v4
  let main_c : IVec S_ 1 := constantI S_ 1 1#1
  let main_v6 : IVec S_ 1 := (fun x v => Host.reduce IntOp.andi x v reducesTo_S4096_S_d0 h_S_) main_v5 main_c
  main_v6
-- ==== Kernel.lean ====
abbrev S2x2048x1024 : Shape := ⟨3, ![2, 2048, 1024]⟩
abbrev S1024x8 : Shape := ⟨2, ![1024, 8]⟩
abbrev S8x1024x1024 : Shape := ⟨3, ![8, 1024, 1024]⟩
abbrev S8x1024 : Shape := ⟨2, ![8, 1024]⟩
abbrev S4096x1024 : Shape := ⟨2, ![4096, 1024]⟩
abbrev S1024x1024 : Shape := ⟨2, ![1024, 1024]⟩
abbrev S1024 : Shape := ⟨1, ![1024]⟩
abbrev S1024x1 : Shape := ⟨2, ![1024, 1]⟩
abbrev S1x1024x1024 : Shape := ⟨3, ![1, 1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x2048x1024, .f32⟩
  | .hbm, ⟨1, _⟩ => ⟨S1024x8, .f32⟩
  | .hbm, ⟨2, _⟩ => ⟨S8x1024x1024, .f32⟩
  | .hbm, ⟨3, _⟩ => ⟨S8x1024, .f32⟩
  | .hbm, ⟨4, _⟩ => ⟨S4096x1024, .f32⟩
  | .hbm, ⟨5, _⟩ => ⟨S4096x1024, .f32⟩
  | .hbm, ⟨6, _⟩ => ⟨S2x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x8, .f32⟩
  | .local _ .vmem, ⟨3, _⟩ => ⟨S8x1024x1024, .f32⟩
  | .local _ .vmem, ⟨4, _⟩ => ⟨S8x1024, .f32⟩
  | .local _ .vmem, ⟨5, _⟩ => ⟨S1024x1024, .f32⟩
  | .local _ .vmem, ⟨6, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S2x2048x1024 : Shape := ⟨3, ![2, 2048, 1024]⟩
abbrev S1024x8 : Shape := ⟨2, ![1024, 8]⟩
abbrev S8x1024x1024 : Shape := ⟨3, ![8, 1024, 1024]⟩
abbrev S8x1024 : Shape := ⟨2, ![8, 1024]⟩
abbrev S4096x1024 : Shape := ⟨2, ![4096, 1024]⟩
abbrev S4096x8 : Shape := ⟨2, ![4096, 8]⟩
abbrev S4096x2 : Shape := ⟨2, ![4096, 2]⟩
abbrev S_ : Shape := ⟨0, ![]⟩
abbrev S4096 : Shape := ⟨1, ![4096]⟩
abbrev S4096x1 : Shape := ⟨2, ![4096, 1]⟩
abbrev S4096x8x1024 : Shape := ⟨3, ![4096, 8, 1024]⟩
abbrev S1x8x1024 : Shape := ⟨3, ![1, 8, 1024]⟩
abbrev S4096x2x1 : Shape := ⟨3, ![4096, 2, 1]⟩
abbrev S1x1x8 : Shape := ⟨3, ![1, 1, 8]⟩
abbrev S4096x2x8 : Shape := ⟨3, ![4096, 2, 8]⟩

abbrev nBuf : Space → Nat
  | .hbm => 35
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x8, .f32⟩
  | .hbm, ⟨2, _⟩ => ⟨S8x1024x1024, .f32⟩
  | .hbm, ⟨3, _⟩ => ⟨S8x1024, .f32⟩
  | .hbm, ⟨4, _⟩ => ⟨S4096x1024, .f32⟩
  | .hbm, ⟨5, _⟩ => ⟨S4096x8, .f32⟩
  | .hbm, ⟨6, _⟩ => ⟨S4096x2, .f32⟩
  | .hbm, ⟨7, _⟩ => ⟨S4096x2, .i32⟩
  | .hbm, ⟨8, _⟩ => ⟨S_, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S4096x1, .f32⟩
  | .hbm, ⟨14, _⟩ => ⟨S4096x2, .f32⟩
  | .hbm, ⟨15, _⟩ => ⟨S4096x2, .f32⟩
  | .hbm, ⟨16, _⟩ => ⟨S4096x2, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S4096x2, .f32⟩
  | .hbm, ⟨21, _⟩ => ⟨S4096x2, .f32⟩
  | .hbm, ⟨22, _⟩ => ⟨S4096x8x1024, .f32⟩
  | .hbm, ⟨23, _⟩ => ⟨S1x8x1024, .f32⟩
  | .hbm, ⟨24, _⟩ => ⟨S4096x8x1024, .f32⟩
  | .hbm, ⟨25, _⟩ => ⟨S4096x8x1024, .f32⟩
  | .hbm, ⟨26, _⟩ => ⟨S4096x2x1, .i32⟩
  | .hbm, ⟨27, _⟩ => ⟨S1x1x8, .i32⟩
  | .hbm, ⟨28, _⟩ => ⟨S4096x2x8, .i32⟩
  | .hbm, ⟨29, _⟩ => ⟨S4096x2x8, .i32⟩
  | .hbm, ⟨30, _⟩ => ⟨S4096x2x8, .i1⟩
  | .hbm, ⟨31, _⟩ => ⟨S4096x2x8, .f32⟩
  | .hbm, ⟨32, _⟩ => ⟨S4096x8, .f32⟩
  | .hbm, ⟨33, _⟩ => ⟨S4096x1024, .f32⟩
  | .hbm, ⟨34, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_values : Ref sig .tc := ⟨.hbm, 6, rfl⟩
abbrev main_indices : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]
-- ==== Proof.Top2.lean ====
/-
  The mathematics of routing one token to its two best experts, on the extended reals: the best and the
  second-best expert of a row of eight logits, the three ways the two programs find them (a maximum, the
  first position that attains it, a stable descending sort), and the two mixing weights.
-/
module

public import Idealize.ShloMosaic.PureOps.Ideal.Laws
public import Idealize.ShloMosaic.Lib.SortPrefix

@[expose] public section

noncomputable section

namespace Cert.Route

open Idealize.ShloMosaic

/-- Expert `i` is the best of the row `L`: no logit is larger, and no earlier expert has the same logit. -/
structure Best (L : Fin 8 → EReal) (i : Fin 8) : Prop where
  ge : ∀ k, L k ≤ L i
  first : ∀ k, k < i → L k ≠ L i

/-- Expert `j` is the runner-up of the row `L` whose best expert is `i`: of the experts other than `i`, no logit
    is larger, and no earlier one has the same logit. -/
structure RunnerUp (L : Fin 8 → EReal) (i j : Fin 8) : Prop where
  ne : j ≠ i
  ge : ∀ k, k ≠ i → L k ≤ L j
  first : ∀ k, k < j → k ≠ i → L k ≠ L j

/-- Among the positions of a nonempty set, one has the largest logit and is the first of the set to have it. -/
theorem exists_first_max (L : Fin 8 → EReal) (S : Finset (Fin 8)) (hS : S.Nonempty) :
    ∃ i ∈ S, (∀ k ∈ S, L k ≤ L i) ∧ ∀ k ∈ S, k < i → L k ≠ L i := by
  classical
  obtain ⟨a, ha, hmax⟩ := S.exists_max_image L hS
  obtain ⟨i, hi, hmin⟩ := (S.filter fun k => L k = L a).exists_min_image id ⟨a, by simp [ha]⟩
  rw [Finset.mem_filter] at hi
  refine ⟨i, hi.1, fun k hk => hi.2 ▸ hmax k hk, fun k hk hlt he => ?_⟩
  exact absurd (hmin k (Finset.mem_filter.mpr ⟨hk, he.trans hi.2⟩)) (not_le.mpr hlt)

/-- Every row has a best expert. -/
theorem exists_best (L : Fin 8 → EReal) : ∃ i, Best L i := by
  obtain ⟨i, -, h, h'⟩ := exists_first_max L Finset.univ ⟨0, Finset.mem_univ _⟩
  exact ⟨i, fun k => h k (Finset.mem_univ _), fun k => h' k (Finset.mem_univ _)⟩

/-- Every row has a runner-up. -/
theorem exists_runnerUp (L : Fin 8 → EReal) (i : Fin 8) : ∃ j, RunnerUp L i j := by
  have hne : (Finset.univ.filter fun k : Fin 8 => k ≠ i).Nonempty := by
    revert i; decide
  obtain ⟨j, hj, h, h'⟩ := exists_first_max L _ hne
  simp only [Finset.mem_filter, Finset.mem_univ, true_and] at hj h h'
  exact ⟨j, hj, h, fun k hlt hk => h' k hk hlt⟩

/-! ## The maximum and the first position that attains it, as folds -/

/-- The pattern of minus infinity denotes the bottom element. -/
theorem ofBits_negInf : Ideal.ofBits .f32 4286578688#32 = ⊥ := by simp [Ideal.ofBits, Ideal.ieee]

/-- The pattern of plus infinity denotes the top element. -/
theorem ofBits_posInf : Ideal.ofBits .f32 2139095040#32 = ⊤ := by simp [Ideal.ofBits, Ideal.ieee]

/-- The running maximum from minus infinity is the entry that no entry exceeds. -/
theorem fold_max_eq {n : Nat} (f : Fin n → EReal) (i : Fin n) (h : ∀ k, f k ≤ f i) :
    Finset.univ.fold max (Ideal.ofBits .f32 4286578688#32) f = f i := by
  rw [ofBits_negInf]
  refine le_antisymm ?_ ?_
  · exact Finset.fold_max_le (f i) |>.mpr ⟨bot_le, fun k _ => h k⟩
  · exact Finset.le_fold_max (f i) |>.mpr (Or.inr ⟨i, Finset.mem_univ _, le_rfl⟩)

/-- Of the positions marked by `p`, where `8` stands for an unmarked one, the smallest is the first marked one. -/
theorem fold_minsi_mark : ∀ (p : Fin 8 → Bool) (i : Fin 8), p i = true → (∀ k, k < i → p k = false) →
    Finset.univ.fold IntOp.minsi (2147483647#32) (fun k : Fin 8 => if p k = true then BitVec.ofNat 32 k.val else 8#32)
      = BitVec.ofNat 32 i.val := by
  decide +kernel

/-- The smallest position at which the row has the value `v` is the first such position. -/
theorem fold_minsi_eq (f : Fin 8 → EReal) (v : EReal) (i : Fin 8) (hi : f i = v) (h : ∀ k, k < i → f k ≠ v) :
    Finset.univ.fold IntOp.minsi (2147483647#32) (fun k : Fin 8 => if f k = v then BitVec.ofNat 32 k.val else 8#32)
      = BitVec.ofNat 32 i.val := by
  have := fold_minsi_mark (fun k => decide (f k = v)) i (by simpa using hi) (fun k hk => by simpa using h k hk)
  simpa only [decide_eq_true_eq] using this

/-- The indicator that two positions agree, read from a compare of their words widened to 32 bits. -/
theorem signed_indicator (a b : Fin 8) :
    (FloatOps.sitofp FTy.f32 (BitVec.setWidth 32 (IntOp.cmpi .eq (BitVec.ofNat 32 a.val) (BitVec.ofNat 32 b.val))) : Ideal .f32)
      = if a = b then 1 else 0 := by
  have h : ∀ a b : Fin 8, BitVec.setWidth 32 (IntOp.cmpi .eq (BitVec.ofNat 32 a.val) (BitVec.ofNat 32 b.val))
      = if a = b then 1#32 else 0#32 := by decide
  rw [h]
  show (((if a = b then 1#32 else 0#32).toInt : ℝ) : EReal) = _
  split <;> simp

/-- The same indicator, read from the one-bit word itself. -/
theorem unsigned_indicator (a b : Fin 8) :
    (FloatOps.uitofp FTy.f32 (IntOp.cmpi .eq (BitVec.ofNat 32 b.val) (BitVec.ofNat 32 a.val)) : Ideal .f32)
      = if a = b then 1 else 0 := by
  have h : ∀ a b : Fin 8, IntOp.cmpi .eq (BitVec.ofNat 32 b.val) (BitVec.ofNat 32 a.val)
      = if a = b then 1#1 else 0#1 := by decide
  rw [h]
  show (((if a = b then 1#1 else 0#1).toNat : ℝ) : EReal) = _
  split <;> simp

/-! ## The row with its best expert struck out -/

/-- The row with the logit of expert `i` replaced by minus infinity. -/
def struck (L : Fin 8 → EReal) (i : Fin 8) : Fin 8 → EReal := fun k => if k = i then ⊥ else L k

/-- The largest logit of the struck row is the runner-up's. -/
theorem struck_le {L : Fin 8 → EReal} {i j : Fin 8} (h : RunnerUp L i j) (k : Fin 8) : struck L i k ≤ struck L i j := by
  unfold struck
  rw [if_neg h.ne]
  split
  · exact bot_le
  · exact h.ge k ‹_›

/-- The struck row at the runner-up is the runner-up's logit. -/
theorem struck_runnerUp {L : Fin 8 → EReal} {i j : Fin 8} (h : RunnerUp L i j) : struck L i j = L j := if_neg h.ne

/-- Unless the runner-up's logit is minus infinity, the runner-up is the first at the struck row's maximum. -/
theorem struck_first {L : Fin 8 → EReal} {i j : Fin 8} (h : RunnerUp L i j) (hj : L j ≠ ⊥) (k : Fin 8) (hk : k < j) :
    struck L i k ≠ L j := by
  unfold struck
  split
  · exact Ne.symm hj
  · exact h.first k hk ‹_›

/-! ## The stable descending sort -/

/-- Position `a` sorts strictly before position `b`: its logit is larger, or it is the same and `a` comes first. -/
def ahead (L : Fin 8 → EReal) (a b : Fin 8) : Bool := decide (L b < L a) || (decide (L a = L b) && decide (a < b))

/-- A stable sort of an increasing list of positions never sees a tie out of order, so breaking ties by position
    changes nothing. -/
theorem stableSort_ties (B R : Fin 8 → Fin 8 → Bool) (h : ∀ a b, a < b → B b a = R b a) (l : List (Fin 8))
    (hl : l.Pairwise (· < ·)) : stableSort B l = stableSort R l := by
  induction l with
  | nil => rfl
  | cons a l ih =>
    rw [List.pairwise_cons] at hl
    show insertBefore B a (stableSort B l) = insertBefore R a (stableSort R l)
    rw [ih hl.2]
    exact insertBefore_congr B R a _ fun b hb => h a b (hl.1 b ((perm_stableSort R l).mem_iff.mp hb))

/-- Sorting by the logits alone is sorting by the logits and then the position. -/
theorem sortedFrom_ahead (L : Fin 8 → EReal) :
    sortedFrom (fun a b : Fin 8 => decide (L b < L a)) = sortedFrom (ahead L) := by
  have hp : sortPositions 8 (fun a b : Fin 8 => decide (L b < L a)) = sortPositions 8 (ahead L) := by
    refine stableSort_ties _ _ (fun a b hab => ?_) _ (List.pairwise_lt_finRange 8)
    simp [ahead, not_lt.mpr hab.le]
  funext k
  unfold sortedFrom
  rw [List.get_of_eq hp]
  rfl

/-- A stable descending sort puts the best expert first and the runner-up second. -/
theorem sortedFrom_top2 {L : Fin 8 → EReal} {i j : Fin 8} (hi : Best L i) (hj : RunnerUp L i j) :
    sortedFrom (fun a b : Fin 8 => decide (L b < L a)) 0 = i
      ∧ sortedFrom (fun a b : Fin 8 => decide (L b < L a)) 1 = j := by
  rw [sortedFrom_ahead]
  have hB : StrictTotalBefore (ahead L) :=
    StrictTotalBefore.of_key_then_position (fun x y : EReal => decide (y < x)) L (by simp)
      (fun a b c h1 h2 => by simp only [decide_eq_true_eq] at *; exact h2.trans h1)
      (fun a b => by simp only [decide_eq_true_eq]; rcases lt_trichotomy a b with h | h | h <;> simp [h])
  have hfar : ∀ p, p ≠ i → ahead L p i = false := fun p hp => by
    have h1 : ¬ L i < L p := not_lt.mpr (hi.ge p)
    by_cases h2 : p < i
    · simp [ahead, h1, hi.first p h2]
    · simp [ahead, h1, h2]
  have hnext : ∀ p, p ≠ i → p ≠ j → ahead L p j = false := fun p hp hpj => by
    have h1 : ¬ L j < L p := not_lt.mpr (hj.ge p hp)
    by_cases h2 : p < j
    · simp [ahead, h1, hj.first p h2 hp]
    · simp [ahead, h1, h2]
  have key := hB.sortedFrom_eq_of_prefix (k := 2) (by decide) ![i, j]
    (by
      intro a b hab
      fin_cases a <;> fin_cases b <;> simp_all [hj.ne, Ne.symm hj.ne])
    (by
      intro a b hab
      fin_cases a <;> fin_cases b <;> simp_all [hj.ne])
    (by
      intro a p hp
      have h0 : p ≠ i := fun e => hp 0 (by simp [e])
      have h1 : p ≠ j := fun e => hp 1 (by simp [e])
      fin_cases a
      · exact hfar p h0
      · exact hnext p h0 h1)
  exact ⟨key 0, key 1⟩

/-! ## The mixing weights -/

/-- The exponential of the runner-up's logit relative to the best one. -/
def tail (L : Fin 8 → EReal) (i j : Fin 8) : EReal := Ideal.exp (L j - L i)

/-- The weight of expert `e` for a token with best expert `i` and runner-up `j`: the softmax of the two logits at
    these two experts and zero elsewhere. -/
def weight (L : Fin 8 → EReal) (i j e : Fin 8) : EReal :=
  Ideal.div 1 (1 + tail L i j) * (if e = i then 1 else 0)
    + Ideal.div (tail L i j) (1 + tail L i j) * (if e = j then 1 else 0)

/-- The exponential of the runner-up's logit relative to a finite best one is a real number, not negative. -/
theorem tail_real {L : Fin 8 → EReal} {i : Fin 8} (j : Fin 8) (hi : Best L i) (ht : L i ≠ ⊤) (hb : L i ≠ ⊥) :
    ∃ r : ℝ, 0 ≤ r ∧ tail L i j = (r : EReal) := by
  unfold tail
  have hj : L j ≠ ⊤ := fun h => ht (top_le_iff.mp (h ▸ hi.ge j))
  lift L i to ℝ using ⟨ht, hb⟩ with x
  induction h : L j with
  | bot => exact ⟨0, le_rfl, by rw [EReal.bot_sub]; rfl⟩
  | coe y => exact ⟨Real.exp (y - x), (Real.exp_pos _).le, by rw [← EReal.coe_sub]; rfl⟩
  | top => exact absurd h hj

/-- A quotient of a real number by one plus a nonnegative real number is the real quotient. -/
theorem div_real (a r : ℝ) (hr : 0 ≤ r) : Ideal.div (a : EReal) (1 + (r : EReal)) = ((a / (1 + r) : ℝ) : EReal) := by
  have h1 : (1 : EReal) + (r : EReal) = ((1 + r : ℝ) : EReal) := by norm_cast
  have hne : (1 + r : ℝ) ≠ 0 := by positivity
  rw [h1, Ideal.div, if_neg (by exact_mod_cast hne), ← EReal.coe_inv, ← EReal.coe_mul, div_eq_mul_inv]

/-- When the best logit is finite every weight is a real number, not negative. -/
theorem weight_real {L : Fin 8 → EReal} {i : Fin 8} (j e : Fin 8) (hi : Best L i) (ht : L i ≠ ⊤) (hb : L i ≠ ⊥) :
    ∃ g : ℝ, 0 ≤ g ∧ weight L i j e = (g : EReal) := by
  obtain ⟨r, hr, hE⟩ := tail_real j hi ht hb
  refine ⟨1 / (1 + r) * (if e = i then 1 else 0) + r / (1 + r) * (if e = j then 1 else 0), by positivity, ?_⟩
  have h1 := div_real 1 r hr
  rw [EReal.coe_one] at h1
  unfold weight
  rw [hE, h1, div_real r r hr]
  split <;> split <;> simp

/-- The best expert of a row. -/
def best (L : Fin 8 → EReal) : Fin 8 := (exists_best L).choose

/-- The runner-up of a row. -/
def second (L : Fin 8 → EReal) : Fin 8 := (exists_runnerUp L (best L)).choose

/-- The best expert is the best. -/
theorem best_spec (L : Fin 8 → EReal) : Best L (best L) := (exists_best L).choose_spec

/-- The runner-up is the runner-up. -/
theorem second_spec (L : Fin 8 → EReal) : RunnerUp L (best L) (second L) := (exists_runnerUp L (best L)).choose_spec

/-- The row's largest logit is a finite number. -/
def Finite (L : Fin 8 → EReal) : Prop := L (best L) ≠ ⊤ ∧ L (best L) ≠ ⊥

/-- A sum of experts weighted by real numbers that are not negative: the biases may be added before or after the
    weighting, whatever the biases and the experts' values, infinities included. -/
theorem mix_eq (w s b : Fin 8 → EReal) (hw : ∀ e, ∃ g : ℝ, 0 ≤ g ∧ w e = (g : EReal)) :
    ∑ e, w e * b e + w 0 * s 0 + w 1 * s 1 + w 2 * s 2 + w 3 * s 3 + w 4 * s 4 + w 5 * s 5 + w 6 * s 6 + w 7 * s 7
      = ∑ e, w e * (s e + b e) := by
  have h : ∀ e, w e * (s e + b e) = w e * s e + w e * b e := fun e => by
    obtain ⟨g, hg, he⟩ := hw e
    rw [he]
    exact EReal.left_distrib_of_nonneg_of_ne_top (by exact_mod_cast hg) (EReal.coe_ne_top g) _ _
  simp only [h]
  rw [Finset.sum_add_distrib, add_comm (∑ e, w e * s e), Fin.sum_univ_eight (fun e => w e * s e)]
  simp only [add_assoc]

end Cert.Route

end
-- ==== Proof.Token.lean ====
/-
  What the mixture of experts computes for one token: the gate's logits, and the weighted sum of the eight experts'
  outputs, of which all but the two best have weight zero.
-/
module

public import proofs.«01_k».proof.Proof.Top2

@[expose] public section

noncomputable section

namespace Cert.Route

open Idealize.ShloMosaic

/-- The gate's logit of expert `e` for a token with features `x`. -/
def logit (x : Fin 1024 → EReal) (Wg : Fin 1024 → Fin 8 → EReal) (e : Fin 8) : EReal := ∑ k, x k * Wg k e

/-- Expert `e`'s product with a token's features at output feature `d`, before its bias. -/
def expert (x : Fin 1024 → EReal) (We : Fin 8 → Fin 1024 → Fin 1024 → EReal) (d : Fin 1024) (e : Fin 8) : EReal :=
  ∑ k, x k * We e k d

/-- The token's output feature `d`: the experts' outputs weighted by the softmax of the two best logits. -/
def mixed (x : Fin 1024 → EReal) (Wg : Fin 1024 → Fin 8 → EReal) (We : Fin 8 → Fin 1024 → Fin 1024 → EReal)
    (be : Fin 8 → Fin 1024 → EReal) (d : Fin 1024) : EReal :=
  ∑ e, weight (logit x Wg) (best (logit x Wg)) (second (logit x Wg)) e * (expert x We d e + be e d)

end Cert.Route

end
-- ==== Proof.KernelBlock.lean ====
/-
  What one block of the kernel computes: each entry of the block it stores is the mixture of experts of that row's
  token, when the token's best logit is finite.
-/
module

public import proofs.«01_k».proof.Proof.Token
public import proofs.«01_k».proof.Proof.Gen.KernelIdeal.Frame
public import Idealize.ShloMosaic.Lib.Pointwise
public import Idealize.ShloMosaic.Lib.Pipeline.Value

@[expose] public section

set_option maxRecDepth 16384

noncomputable section

namespace Cert.Route.Block

open Idealize.ShloMosaic Cert.KernelIdeal Cert.KernelIdeal.Gen

variable (x : Vec Ideal S1024x1024 .f32) (Wg : Vec Ideal S1024x8 .f32) (We : Vec Ideal S8x1024x1024 .f32)
  (be : Vec Ideal S8x1024 .f32)

/-- The logits of the token in row `r` of the block. -/
def row (r : Fin 1024) : Fin 8 → EReal := logit (fun k => x (ix2 r k)) (fun k e => Wg (ix2 k e))

/-- The gate's product, entry by entry. -/
theorem logits_at (r : Fin 1024) (e : Fin 8) : k0_pay3 x Wg (ix2 r e) = row x Wg r e := by
  pointwise [k0_pay3, k0_pay2]
  rfl

/-- The row's maximum is the best expert's logit. -/
theorem max_at (r : Fin 1024) : k0_pay4 x Wg (ix2 r 0) = row x Wg r (best (row x Wg r)) := by
  pointwise [k0_pay4]
  simp only [logits_at]
  exact fold_max_eq (row x Wg r) _ (best_spec _).ge

/-- The mark of the first position that attains the maximum compares with the best expert. -/
theorem mark_at (r : Fin 1024) (e : Fin 8) :
    k0_pay5 x Wg (ix2 r e) = IntOp.cmpi .eq (BitVec.ofNat 32 e.val) (BitVec.ofNat 32 (best (row x Wg r)).val) := by
  pointwise [k0_pay5]
  simp only [logits_at, max_at]
  rw [fold_minsi_eq (row x Wg r) _ (best (row x Wg r)) rfl (best_spec _).first]

/-- The logits with the best expert struck out. -/
theorem struck_at (r : Fin 1024) (e : Fin 8) :
    k0_pay6 x Wg (ix2 r e) = struck (row x Wg r) (best (row x Wg r)) e := by
  pointwise [k0_pay6]
  have h : ∀ a b : Fin 8, IntOp.cmpi .eq (BitVec.ofNat 32 a.val) (BitVec.ofNat 32 b.val)
      = if a = b then 1#1 else 0#1 := by decide
  rw [mark_at, logits_at, ofBits_negInf, h]
  unfold struck Scalar.select
  split <;> simp_all

/-- The struck row's maximum is the runner-up's logit. -/
theorem max2_at (r : Fin 1024) : k0_pay7 x Wg (ix2 r 0) = row x Wg r (second (row x Wg r)) := by
  pointwise [k0_pay7]
  simp only [struck_at]
  rw [fold_max_eq (struck (row x Wg r) (best (row x Wg r))) (second (row x Wg r)) (struck_le (second_spec _)),
    struck_runnerUp (second_spec _)]

/-- The exponential of the runner-up's logit relative to the best. -/
theorem tail_at (r : Fin 1024) :
    k0_pay8 x Wg (ix2 r 0) = tail (row x Wg r) (best (row x Wg r)) (second (row x Wg r)) := by
  have h := max2_at x Wg r
  pointwise [k0_pay8]
  rw [max_at, h]
  rfl

/-- The pattern of one denotes one. -/
theorem ofBits_one : Ideal.ofBits .f32 1065353216#32 = 1 := by
  simp [Ideal.ofBits, Ideal.ieee, -EReal.coe_mul]; norm_num

/-- The two weights added: the weight of each expert for the row's token. -/
theorem weight_at (r : Fin 1024) (e : Fin 8) :
    k0_pay9 x Wg (ix2 r e) + k0_pay10 x Wg (ix2 r e)
      = weight (row x Wg r) (best (row x Wg r)) (second (row x Wg r)) e := by
  have h9 : k0_pay9 x Wg (ix2 r e) = Ideal.div 1 (1 + tail (row x Wg r) (best (row x Wg r)) (second (row x Wg r)))
      * (if e = best (row x Wg r) then 1 else 0) := by
    pointwise [k0_pay9]
    rw [tail_at, mark_at, signed_indicator]
  have h10 : k0_pay10 x Wg (ix2 r e)
      = Ideal.div (tail (row x Wg r) (best (row x Wg r)) (second (row x Wg r)))
          (1 + tail (row x Wg r) (best (row x Wg r)) (second (row x Wg r)))
        * (if e = second (row x Wg r) then 1 else 0) := by
    pointwise [k0_pay10]
    simp only [tail_at, struck_at, max2_at]
    by_cases hb : row x Wg r (second (row x Wg r)) = ⊥
    · have h0 : tail (row x Wg r) (best (row x Wg r)) (second (row x Wg r)) = 0 := by
        unfold tail; rw [hb, EReal.bot_sub]; rfl
      have hz : Ideal.div 0 (1 + 0) = 0 := by simp [Ideal.div]
      rw [h0, hz, zero_mul, zero_mul]
    · rw [fold_minsi_eq (struck (row x Wg r) (best (row x Wg r))) _ (second (row x Wg r))
        (struck_runnerUp (second_spec _)) (struck_first (second_spec _) hb), signed_indicator]
  rw [h9, h10]
  rfl

/-- What the kernel stores in its block, entry by entry. -/
theorem stored_at (r d : Fin 1024) (hfin : Finite (row x Wg r)) :
    out0_4 x Wg We be (ix2 r d) = mixed (fun k => x (ix2 r k)) (fun k e => Wg (ix2 k e))
      (fun e k d => We (ix3 e k d)) (fun e d => be (ix2 e d)) d := by
  have z2 : (![0, 0] : Fin 2 → Nat) = fun _ => 0 := by funext a; fin_cases a <;> rfl
  have p15 : k0_pay15 x Wg We be = x := by unfold k0_pay15 k0_pay2; rw [View.ld_unit_zero z2, shapeCast_self]
  have p16 : k0_pay16 x Wg We be = k0_pay9 x Wg := by unfold k0_pay16; rw [View.ld_unit_zero z2, View.ld_unit_zero z2]
  have p17 : k0_pay17 x Wg We be = k0_pay10 x Wg := by unfold k0_pay17; rw [View.ld_unit_zero z2, View.ld_unit_zero z2]
  unfold out0_4
  rw [View.canon_unit_zero z2]
  pointwise [k0_pay1, k0_pay11, k0_pay12, k0_pay13, k0_pay14]
  simp only [p15, p16, p17, weight_at]
  exact mix_eq _ (expert (fun k => x (ix2 r k)) (fun e k d => We (ix3 e k d)) d) (fun e => be (ix2 e d))
    fun e => weight_real _ e (best_spec _) hfin.1 hfin.2

end Cert.Route.Block

end
-- ==== Proof.KernelRun.lean ====
/-
  What the kernel's arrays hold after its run: every block written back is a block of one whole array, the mixture of
  experts of each token, the blocks tile the array, and the last line reshapes that array to the result.
-/
module

public import proofs.«01_k».proof.Proof.KernelBlock

@[expose] public section

set_option maxRecDepth 16384

noncomputable section

namespace Cert.Route.Run

open Idealize.ShloMosaic Idealize.ShloMosaic.TcCoe Idealize.SL.Sem
open Idealize.ShloMosaic.Pipeline (Dat)
open Cert.KernelIdeal Cert.KernelIdeal.Gen

/-- The logits of the token in row `t` of the tokens' matrix. -/
def row (x : Vec Ideal S4096x1024 .f32) (Wg : Vec Ideal S1024x8 .f32) (t : Fin 4096) : Fin 8 → EReal :=
  logit (fun k => x (ix2 t k)) (fun k e => Wg (ix2 k e))

/-- The mixture of experts of every token, one row per token. -/
def tokens (x : Vec Ideal S4096x1024 .f32) (Wg : Vec Ideal S1024x8 .f32) (We : Vec Ideal S8x1024x1024 .f32)
    (be : Vec Ideal S8x1024 .f32) : Vec Ideal S4096x1024 .f32 := fun i =>
  mixed (fun k => x (ix2 (i 0) k)) (fun k e => Wg (ix2 k e)) (fun e k d => We (ix3 e k d)) (fun e d => be (ix2 e d)) (i 1)

variable (m : (ℓ : Loc nD τ sig) → Buf (Elt Ideal) ℓ) (ρ : Dev nD → PrngReg)

/-- The tokens' matrix of device `c`, the argument reshaped. -/
def flat (c : Dev nD) : Vec Ideal S4096x1024 .f32 :=
  shapeCast _ (m ((c.tc : Thread nD τ).loc main_arg0)) shapeCasts_S2x2048x1024_S4096x1024

/-- The region finds the tokens' matrix in its first window's array. -/
theorem entry_tokens (c : Dev nD) : V m c main_v0 = flat m c := by
  show StableHlo.after _ _ _ = _
  simp only [hostOps0, List.flatten_cons, List.flatten_nil, List.append_nil]
  after_results_simp <;> rfl

/-- The mixture of experts of device `c`'s arguments. -/
def whole (c : Dev nD) : Vec Ideal S4096x1024 .f32 :=
  tokens (flat m c) (m ((c.tc : Thread nD τ).loc main_arg1)) (m ((c.tc : Thread nD τ).loc main_arg2))
    (m ((c.tc : Thread nD τ).loc main_arg3))

/-- Row `r` of the block of point `t`, as a row of the array. -/
def at_ (t : Fin cfg0.N) (r : Fin 1024) : Fin 4096 := ⟨t.val * 1024 + r.val, by
  have h : t.val < grid0.N := t.isLt
  rw [N_0] at h
  omega⟩

/-- An entry of the first window's block sits in the array at the block's row. -/
theorem in_place (t : Fin cfg0.N) (r d : Fin 1024) :
    ((win0_0.rect t).emb (ix2 r d) : S4096x1024.Idx) = ix2 (at_ t r) d := by
  have e : win0_0.index t 0 * win0_0.size 0 = t.val * 1024 ∧ win0_0.index t 1 * win0_0.size 1 = 0 := by
    rcases fin_N0 t with rfl | rfl | rfl | rfl <;> decide +kernel
  funext a
  match a with
  | ⟨0, _⟩ =>
    have h := Pipeline.Window.rect_emb_val win0_0 t (ix2 r d) 0
    rw [e.1] at h
    exact Fin.ext h
  | ⟨1, _⟩ =>
    have h := Pipeline.Window.rect_emb_val win0_0 t (ix2 r d) 1
    rw [e.2, Nat.zero_add] at h
    exact Fin.ext h

/-- The first window's block is the tokens of its rows. -/
theorem block_tokens (c : Dev nD) (t : Fin cfg0.N) (r k : Fin 1024) :
    (iblk m c 0 t : Vec Ideal S1024x1024 .f32) (ix2 r k) = flat m c (ix2 (at_ t r) k) := by
  rw [← entry_tokens]
  show V m c main_v0 ((win0_0.rect t).emb (ix2 r k)) = _
  rw [in_place]

/-- The second window's block is the gate's matrix. -/
theorem block_gate (c : Dev nD) (t : Fin cfg0.N) :
    (iblk m c 1 t : Vec Ideal S1024x8 .f32) = m ((c.tc : Thread nD τ).loc main_arg1) := by
  rw [← V_main_arg1 m c]
  funext j
  show V m c main_arg1 ((win0_1.rect t).emb j) = _
  congr 1
  funext a
  exact Fin.ext (Pipeline.Window.rect_emb_val_of_index_zero win0_1 t a (by fin_cases a <;> rfl) j)

/-- The third window's block is the experts' matrices. -/
theorem block_experts (c : Dev nD) (t : Fin cfg0.N) :
    (iblk m c 2 t : Vec Ideal S8x1024x1024 .f32) = m ((c.tc : Thread nD τ).loc main_arg2) := by
  rw [← V_main_arg2 m c]
  funext j
  show V m c main_arg2 ((win0_2.rect t).emb j) = _
  congr 1
  funext a
  exact Fin.ext (Pipeline.Window.rect_emb_val_of_index_zero win0_2 t a (by fin_cases a <;> rfl) j)

/-- The fourth window's block is the experts' biases. -/
theorem block_bias (c : Dev nD) (t : Fin cfg0.N) :
    (iblk m c 3 t : Vec Ideal S8x1024 .f32) = m ((c.tc : Thread nD τ).loc main_arg3) := by
  rw [← V_main_arg3 m c]
  funext j
  show V m c main_arg3 ((win0_3.rect t).emb j) = _
  congr 1
  funext a
  exact Fin.ext (Pipeline.Window.rect_emb_val_of_index_zero win0_3 t a (by fin_cases a <;> rfl) j)

/-- An entry of the last window's block sits in the array at the block's row. -/
theorem out_place (t : Fin cfg0.N) (r d : Fin 1024) :
    ((win0_4.rect t).emb (ix2 r d) : S4096x1024.Idx) = ix2 (at_ t r) d := by
  have e : win0_4.index t 0 * win0_4.size 0 = t.val * 1024 ∧ win0_4.index t 1 * win0_4.size 1 = 0 := by
    rcases fin_N0 t with rfl | rfl | rfl | rfl <;> decide +kernel
  funext a
  match a with
  | ⟨0, _⟩ =>
    have h := Pipeline.Window.rect_emb_val win0_4 t (ix2 r d) 0
    rw [e.1] at h
    exact Fin.ext h
  | ⟨1, _⟩ =>
    have h := Pipeline.Window.rect_emb_val win0_4 t (ix2 r d) 1
    rw [e.2, Nat.zero_add] at h
    exact Fin.ext h

/-- What point `t` writes back is its block of the whole mixture, when every token's best logit is finite. -/
theorem flushed_eq (c : Dev nD) (t : Fin cfg0.N)
    (hfin : ∀ s, Finite (row (flat m c) (m ((c.tc : Thread nD τ).loc main_arg1)) s)) :
    (dats m 0 c).flushed 4 t = (win0_4.blk t).view.read (Elt Ideal) (whole m c) := by
  show (cfg0.win 4).cut (grid0.coords t) ((dats m 0 c).after 4 t) = _
  rw [after0_4, block_gate, block_experts, block_bias]
  funext j
  show out0_4 (iblk m c 0 t) _ _ _ j = whole m c ((win0_4.rect t).emb j)
  obtain ⟨r, d, rfl⟩ : ∃ r d : Fin 1024, j = ix2 r d := ⟨j 0, j 1, by funext a; fin_cases a <;> rfl⟩
  have hrow : Block.row (iblk m c 0 t) (m ((c.tc : Thread nD τ).loc main_arg1)) r
      = row (flat m c) (m ((c.tc : Thread nD τ).loc main_arg1)) (at_ t r) := by
    unfold Block.row row
    simp only [block_tokens]
  rw [Block.stored_at _ _ _ _ r d (by rw [hrow]; exact hfin _), out_place]
  simp only [block_tokens]
  rfl

/-- The blocks of the last window tile its array. -/
theorem cover (i : S4096x1024.Idx) : ∃ t : Fin cfg0.N, (cfg0.win 4).flush t = true ∧ i ∈ ((cfg0.win 4).blk t).view.set := by
  have h0 : (i 0 : Nat) < 4096 := (i 0).isLt
  let t : Fin cfg0.N := ⟨(i 0 : Nat) / 1024, by show _ < grid0.N; rw [N_0]; omega⟩
  let r : Fin 1024 := ⟨(i 0 : Nat) % 1024, Nat.mod_lt _ (by decide)⟩
  refine ⟨t, flush0_4 t, ?_⟩
  let d : Fin 1024 := i 1
  have e : (win0_4.rect t).emb (ix2 r d) = i := by
    refine (out_place t r d).trans ?_
    funext a
    match a with
    | ⟨0, _⟩ => exact Fin.ext (by show (i 0 : Nat) / 1024 * 1024 + (i 0 : Nat) % 1024 = (i 0 : Nat); omega)
    | ⟨1, _⟩ => rfl
  have h := View.emb_mem_set ((cfg0.win 4).blk t).view (ix2 r d)
  rwa [show ((cfg0.win 4).blk t).view.emb (ix2 r d) = i from e] at h

/-- After the run the last window's array is the whole mixture. -/
theorem final_array (c : Dev nD)
    (hfin : ∀ s, Finite (row (flat m c) (m ((c.tc : Thread nD τ).loc main_arg1)) s)) :
    (dats m 0 c).arrAt 4 cfg0.N = whole m c :=
  (dats m 0 c).arrAt_eq_of_cover 4 (whole m c) (fun t _ => flushed_eq m c t hfin) cover

/-- The line after the region leaves the reshaped array in the result. -/
theorem final_result (c : Dev nD) :
    Pipeline.afterTail₀ cfgs (dats m) 0 (V0 m) [hostOps1] c main_v2
      = shapeCast S2x2048x1024 ((dats m 0 c).arrAt 4 cfg0.N : Vec Ideal S4096x1024 .f32) shapeCasts_S4096x1024_S2x2048x1024 := by
  unfold Pipeline.afterTail₀
  simp only [hostOps1, List.flatten_cons, List.flatten_nil, List.append_nil]
  after_results_simp
  have h := Pipeline.withArrays_arr cfg0.spec launch0.win.arr_inj c (V0 m c) (fun w => (dats m 0 c).arrAt w cfg0.N) 4
  exact congrArg (fun v : Vec Ideal S4096x1024 .f32 => shapeCast S2x2048x1024 v shapeCasts_S4096x1024_S2x2048x1024) h

/-- The result of device `c`: the mixture of every token, reshaped. -/
def result (c : Dev nD) : Vec Ideal S2x2048x1024 .f32 :=
  shapeCast S2x2048x1024 (whole m c) shapeCasts_S4096x1024_S2x2048x1024

/-- The run of the kernel, when every token's best logit is finite: the result array ends at the mixture of every
    token and the arguments are unchanged. -/
theorem run (hfin : ∀ c s, Finite (row (flat m c) (m ((c.tc : Thread nD τ).loc main_arg1)) s)) :
    θ_run defs (onTc (τ := τ) (main (F := Ideal))) ⟨m, fun _ => 0, ρ⟩ fun r => ∀ c : Dev nD,
      r.2.mem ((c.tc : Thread nD τ).loc main_v2) = result m c :=
  (θ_run defs _ _).mono (fun _ h c => ((h c).2 main_v2 (Pipeline.mem_restRefs_of main_v2 (by decide) (by decide))).trans
      ((final_result m c).trans (by rw [final_array m c (hfin c)]; rfl)))
    (run_main m ρ)

end Cert.Route.Run

end
-- ==== Proof.RefValue.lean ====
/-
  What the reference computes: its composed term, cut into the steps of the program, each read at an index, ends as
  the mixture of experts of one token at every entry whose token has a finite best logit.
-/
module

public import proofs.«01_k».proof.Proof.Token
public import proofs.«01_k».proof.Proof.Gen.ReferenceIdeal.Run
public import Idealize.ShloMosaic.Lib.Pointwise

@[expose] public section

noncomputable section

namespace Cert.Route.Ref

open Idealize.ShloMosaic Cert.ReferenceIdeal Cert.ReferenceIdeal.Gen

/-- The tokens as the rows of one matrix. -/
def flat (X : FVec Ideal S2x2048x1024 .f32) : FVec Ideal S4096x1024 .f32 :=
  shapeCast _ X shapeCasts_S2x2048x1024_S4096x1024

/-- The gate's logits of every token. -/
def gate (x : FVec Ideal S4096x1024 .f32) (Wg : FVec Ideal S1024x8 .f32) : FVec Ideal S4096x8 .f32 :=
  Host.dotGeneral dot_S4096x1024_S1024x8_S4096x8_1_0_0_1_n_n none x Wg

/-- The two largest logits of every token and their experts. -/
def top2 (l : FVec Ideal S4096x8 .f32) : FVec Ideal S4096x2 .f32 × IVec S4096x2 32 :=
  Host.topK S4096x2 1 (FloatOps.cmpfTotal .gt) l sliceFits_S4096x8_S4096x2

/-- The largest of a token's two logits, at both of them. -/
def peak (v : FVec Ideal S4096x2 .f32) : FVec Ideal S4096x2 .f32 :=
  broadcastInDim S4096x2 ![0, 1] bcast_S4096x1_S4096x2_0_1 (broadcastInDim S4096x1 ![0] bcast_S4096_S4096x1_0
    (maximumf (broadcastInDim S4096 ![] bcast_S_S4096 (constant S_ .f32 0xFF800000#32))
      (Host.reduce FloatOps.maximumf v (constant S_ .f32 0xFF800000#32) reducesTo_S4096x2_S4096_d1 h_S_)))

/-- The exponentials of a token's two logits relative to the largest. -/
def expo (v : FVec Ideal S4096x2 .f32) : FVec Ideal S4096x2 .f32 := Host.exp (subf v (peak v))

/-- The softmax of a token's two logits. -/
def soft (v : FVec Ideal S4096x2 .f32) : FVec Ideal S4096x2 .f32 :=
  Host.divf (expo v) (broadcastInDim S4096x2 ![0, 1] bcast_S4096x1_S4096x2_0_1 (broadcastInDim S4096x1 ![0] bcast_S4096_S4096x1_0
    (Host.reduceAdd (expo v) (constant S_ .f32 0x00000000#32) reducesTo_S4096x2_S4096_d1 h_S_)))

/-- The indicator of each chosen expert. -/
def hot (q : IVec S4096x2 32) : FVec Ideal S4096x2x8 .f32 :=
  uitofp .f32 (cmpi .eq
    (broadcastInDim S4096x2x8 ![0, 1, 2] bcast_S4096x2x1_S4096x2x8_0_1_2 (broadcastInDim S4096x2x1 ![0, 1] bcast_S4096x2_S4096x2x1_0_1 q))
    (broadcastInDim S4096x2x8 ![0, 1, 2] bcast_S1x1x8_S4096x2x8_0_1_2 (iotaInDim S1x1x8 32 2)))

/-- The weight of every expert for every token. -/
def weights (l : FVec Ideal S4096x8 .f32) : FVec Ideal S4096x8 .f32 :=
  Host.dotGeneral dot_S4096x2_S4096x2x8_S4096x8_1_1_n_2_0_0 none (soft (top2 l).1) (hot (top2 l).2)

/-- Every expert's output for every token. -/
def experts (x : FVec Ideal S4096x1024 .f32) (We : FVec Ideal S8x1024x1024 .f32) (be : FVec Ideal S8x1024 .f32) :
    FVec Ideal S4096x8x1024 .f32 :=
  addf (Host.dotGeneral dot_S4096x1024_S8x1024x1024_S4096x8x1024_1_1_0_02_n_n none x We)
    (broadcastInDim S4096x8x1024 ![0, 1, 2] bcast_S1x8x1024_S4096x8x1024_0_1_2 (broadcastInDim S1x8x1024 ![1, 2] bcast_S8x1024_S1x8x1024_1_2 be))

/-- The experts' outputs weighted and summed, one row per token. -/
def rows (x : FVec Ideal S4096x1024 .f32) (Wg : FVec Ideal S1024x8 .f32) (We : FVec Ideal S8x1024x1024 .f32)
    (be : FVec Ideal S8x1024 .f32) : FVec Ideal S4096x1024 .f32 :=
  Host.dotGeneral dot_S4096x8_S4096x8x1024_S4096x1024_1_1_n_2_0_0 none (weights (gate x Wg)) (experts x We be)

/-- The whole result. -/
def out (X : FVec Ideal S2x2048x1024 .f32) (Wg : FVec Ideal S1024x8 .f32) (We : FVec Ideal S8x1024x1024 .f32)
    (be : FVec Ideal S8x1024 .f32) : FVec Ideal S2x2048x1024 .f32 :=
  shapeCast _ (rows (flat X) Wg We be) shapeCasts_S4096x1024_S2x2048x1024

variable (x : FVec Ideal S4096x1024 .f32) (Wg : FVec Ideal S1024x8 .f32) (We : FVec Ideal S8x1024x1024 .f32)
  (be : FVec Ideal S8x1024 .f32)

/-- A logit read at a token and an expert. -/
theorem gate_at (t : Fin 4096) (e : Fin 8) :
    gate x Wg (ix2 t e) = logit (fun k => x (ix2 t k)) (fun k e => Wg (ix2 k e)) e := by
  pointwise [gate]
  rfl

/-- The position the stable descending sort of a token's logits takes its entry `k` from. -/
def source (l : FVec Ideal S4096x8 .f32) (t : Fin 4096) (k : Fin 8) : Fin 8 :=
  sortedFrom (fun a b : Fin 8 => decide (l (ix2 t b) < l (ix2 t a))) k

/-- The compare of the sort, as the order of the extended reals. -/
theorem compare_gt (a b : EReal) : (FloatOps.cmpfTotal (F := Ideal) (φ := .f32) .gt a b == 1#1) = decide (b < a) := by
  show (BitVec.ofBool (decide (b < a)) == 1#1) = decide (b < a)
  cases decide (b < a) <;> rfl

/-- Moving along the second axis replaces the second coordinate. -/
theorem along_second (t : Fin 4096) (a k : Fin 8) : (ix2 t a : S4096x8.Idx).along 1 k = ix2 t k := by
  funext d
  fin_cases d <;> rfl

/-- The value in place `k` of a token's two largest. -/
theorem top2_value (l : FVec Ideal S4096x8 .f32) (t : Fin 4096) (k : Fin 2) :
    (top2 l).1 (ix2 t k) = l (ix2 t (source l t (k.castLE (by decide)))) := by
  pointwise [top2, Host.topK, Host.sort2]
  simp only [compare_gt, along_second]
  rfl

/-- The expert in place `k` of a token's two largest, as a word. -/
theorem top2_expert (l : FVec Ideal S4096x8 .f32) (t : Fin 4096) (k : Fin 2) :
    (top2 l).2 (ix2 t k) = BitVec.ofNat 32 (source l t (k.castLE (by decide))).val := by
  pointwise [top2, Host.topK, Host.sort2]
  simp only [compare_gt, along_second]
  rfl

/-- The largest of a token's two values is the first, when the second does not exceed it. -/
theorem peak_at (v : FVec Ideal S4096x2 .f32) (t : Fin 4096) (k : Fin 2) (h : v (ix2 t 1) ≤ v (ix2 t 0)) :
    peak v (ix2 t k) = v (ix2 t 0) := by
  pointwise [peak]
  rw [fold_max_eq (fun k : Fin 2 => v (ix2 t k)) 0 (fun k => by fin_cases k; exacts [le_rfl, h]), ofBits_negInf]
  exact max_eq_right bot_le

/-- The softmax of a token's two values. -/
theorem soft_at (v : FVec Ideal S4096x2 .f32) (t : Fin 4096) (k : Fin 2) (h : v (ix2 t 1) ≤ v (ix2 t 0)) :
    soft v (ix2 t k) = Ideal.div (Ideal.exp (v (ix2 t k) - v (ix2 t 0)))
      (Ideal.exp (v (ix2 t 0) - v (ix2 t 0)) + Ideal.exp (v (ix2 t 1) - v (ix2 t 0))) := by
  pointwise [soft, expo]
  simp only [Fin.sum_univ_two, peak_at v t _ h]

/-- The indicator of a chosen expert. -/
theorem hot_at (q : IVec S4096x2 32) (t : Fin 4096) (k : Fin 2) (e : Fin 8) :
    hot q (ix3 t k e) = FloatOps.uitofp FTy.f32 (IntOp.cmpi .eq (q (ix2 t k)) (BitVec.ofNat 32 e.val)) := by
  pointwise [hot]

/-- A finite number less itself has exponential one. -/
theorem exp_self {a : EReal} (ht : a ≠ ⊤) (hb : a ≠ ⊥) : Ideal.exp (a - a) = 1 := by
  lift a to ℝ using ⟨ht, hb⟩
  rw [← EReal.coe_sub, sub_self]
  show ((Real.exp 0 : ℝ) : EReal) = 1
  simp

/-- The weights of a token whose best logit is finite. -/
theorem weights_at (l : FVec Ideal S4096x8 .f32) (t : Fin 4096) (e : Fin 8) (L : Fin 8 → EReal)
    (hL : ∀ e, l (ix2 t e) = L e) (hfin : Finite L) :
    weights l (ix2 t e) = weight L (best L) (second L) e := by
  have hs := sortedFrom_top2 (best_spec L) (second_spec L)
  have h0 : source l t 0 = best L := by rw [← hs.1]; simp only [source, hL]
  have h1 : source l t 1 = second L := by rw [← hs.2]; simp only [source, hL]
  have v0 : (top2 l).1 (ix2 t 0) = L (best L) := by
    rw [top2_value, ← hL, ← h0]; rfl
  have v1 : (top2 l).1 (ix2 t 1) = L (second L) := by
    rw [top2_value, ← hL, ← h1]; rfl
  have q0 : (top2 l).2 (ix2 t 0) = BitVec.ofNat 32 (best L).val := by
    rw [top2_expert, ← h0]; rfl
  have q1 : (top2 l).2 (ix2 t 1) = BitVec.ofNat 32 (second L).val := by
    rw [top2_expert, ← h1]; rfl
  have hle : (top2 l).1 (ix2 t 1) ≤ (top2 l).1 (ix2 t 0) := by
    rw [v0, v1]; exact (best_spec L).ge _
  pointwise [weights]
  rw [Fin.sum_univ_two, soft_at _ t 0 hle, soft_at _ t 1 hle, hot_at, hot_at, v0, v1, q0, q1,
    exp_self hfin.1 hfin.2, unsigned_indicator, unsigned_indicator]
  rfl

/-- An expert's output for a token. -/
theorem experts_at (t : Fin 4096) (e : Fin 8) (d : Fin 1024) :
    experts x We be (ix3 t e d)
      = expert (fun k => x (ix2 t k)) (fun e k d => We (ix3 e k d)) d e + be (ix2 e d) := by
  pointwise [experts]
  rfl

/-- A token's row of the reference is the mixture of experts, when the token's best logit is finite. -/
theorem rows_at (t : Fin 4096) (d : Fin 1024)
    (hfin : Finite (logit (fun k => x (ix2 t k)) (fun k e => Wg (ix2 k e)))) :
    rows x Wg We be (ix2 t d) = mixed (fun k => x (ix2 t k)) (fun k e => Wg (ix2 k e))
      (fun e k d => We (ix3 e k d)) (fun e d => be (ix2 e d)) d := by
  pointwise [rows]
  refine Finset.sum_congr rfl fun e _ => ?_
  rw [weights_at (gate x Wg) t e _ (gate_at x Wg t) hfin, experts_at]

open Idealize.ShloMosaic.TcCoe Idealize.SL.Sem

/-- The run of the reference, its composed term named: the result array ends at `out` of the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20)
          = out (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceIdeal.Value.run (F := Ideal) m ρ

end Cert.Route.Ref

end
-- ==== Proof.Pre.lean ====
/-
  The precondition read at a token: every token's best logit is a finite number. It holds of every input whose
  token features and gate are finite.
-/
module

public import proofs.«01_k».proof.Proof.RefValue
public import proofs.«01_k».proof.Proof.Gen.Pre_finite_top_logit
public import Idealize.ShloMosaic.Lib.ReduceAll

@[expose] public section

noncomputable section

namespace Cert.Route.Pre

open Idealize.ShloMosaic Cert.Pre_finite_top_logit Cert.Pre_finite_top_logit.Gen

/-- A magnitude below plus infinity is that of a finite number. -/
theorem finite_of_abs (a : EReal) (h : Ideal.cmp .olt (max a (-a)) (Ideal.ofBits .f32 2139095040#32) = 1#1) :
    a ≠ ⊤ ∧ a ≠ ⊥ := by
  rw [ofBits_posInf] at h
  constructor <;> rintro rfl <;> simp [Ideal.cmp] at h

/-- The largest logit of every token. -/
def peaks (X : FVec Ideal S2x2048x1024 .f32) (Wg : FVec Ideal S1024x8 .f32) : FVec Ideal S4096 .f32 :=
  Host.reduce FloatOps.maximumf (Ref.gate (Ref.flat X) Wg) (constant S_ .f32 0xFF800000#32) reducesTo_S4096x8_S4096_d1 h_S_

/-- A token's largest logit is the best expert's. -/
theorem peaks_at (X : FVec Ideal S2x2048x1024 .f32) (Wg : FVec Ideal S1024x8 .f32) (t : Fin 4096) (L : Fin 8 → EReal)
    (hL : ∀ e, Ref.gate (Ref.flat X) Wg (ix2 t e) = L e) : peaks X Wg (ix1 t) = L (best L) := by
  pointwise [peaks]
  simp only [hL]
  exact fold_max_eq L _ (best_spec L).ge

/-- The test that a magnitude is below plus infinity. -/
def below (v : FVec Ideal S4096 .f32) : IVec S4096 1 :=
  cmpf .olt (Host.absf v) (broadcastInDim S4096 ![] bcast_S_S4096 (constant S_ .f32 0x7F800000#32))

/-- The test read at a token. -/
theorem below_at (v : FVec Ideal S4096 .f32) (t : Fin 4096) :
    below v (ix1 t) = Ideal.cmp .olt (max (v (ix1 t)) (-(v (ix1 t)))) (Ideal.ofBits .f32 2139095040#32) := by
  pointwise [below]
  rfl

/-- The precondition is the test at every token. -/
theorem fn_eq (X : FVec Ideal S2x2048x1024 .f32) (Wg : FVec Ideal S1024x8 .f32) (We : FVec Ideal S8x1024x1024 .f32)
    (be : FVec Ideal S8x1024 .f32) : Cert.Pre_finite_top_logit.fn (F := Ideal) X Wg We be
      = Host.reduce IntOp.andi (below (peaks X Wg)) (constantI S_ 1 1#1) reducesTo_S4096_S_d0 h_S_ := rfl

/-- Where the precondition holds every token's best logit is finite. -/
theorem finite (X : FVec Ideal S2x2048x1024 .f32) (Wg : FVec Ideal S1024x8 .f32) (We : FVec Ideal S8x1024x1024 .f32)
    (be : FVec Ideal S8x1024 .f32) (h : Cert.Pre_finite_top_logit.fn (F := Ideal) X Wg We be = fun _ => 1#1) (t : Fin 4096) :
    Finite (logit (fun k => Ref.flat X (ix2 t k)) (fun k e => Wg (ix2 k e))) := by
  haveI : Subsingleton S_.Idx := ⟨fun a b => funext fun d => d.elim0⟩
  rw [fn_eq] at h
  have h1 := Host.reduce_andi_all _ _ _ _ _ (congrFun h (fun d => d.elim0)) (ix1 t)
  rw [below_at, peaks_at X Wg t _ (Ref.gate_at (Ref.flat X) Wg t)] at h1
  exact finite_of_abs _ h1

/-- The precondition holds of every input whose token features and gate are finite numbers, whatever the experts. -/
theorem of_finite (X : FVec Ideal S2x2048x1024 .f32) (Wg : FVec Ideal S1024x8 .f32) (We : FVec Ideal S8x1024x1024 .f32)
    (be : FVec Ideal S8x1024 .f32) (hX : ∀ i, ∃ a : ℝ, X i = (a : EReal)) (hW : ∀ i, ∃ a : ℝ, Wg i = (a : EReal)) :
    Cert.Pre_finite_top_logit.fn (F := Ideal) X Wg We be = fun _ => 1#1 := by
  funext j
  rw [fn_eq]
  refine Host.reduce_andi_one _ _ _ _ _ rfl fun i => ?_
  obtain ⟨t, rfl⟩ : ∃ t : Fin 4096, i = ix1 t := ⟨i 0, by funext a; fin_cases a; rfl⟩
  rw [below_at, peaks_at X Wg t _ (Ref.gate_at (Ref.flat X) Wg t)]
  choose f hf using hX
  choose g hg using hW
  have hx : ∀ k, ∃ a : ℝ, Ref.flat X (ix2 t k) = (a : EReal) := fun k => ⟨_, hf _⟩
  choose a ha using hx
  have hl : ∀ e, ∃ r : ℝ, logit (fun k => Ref.flat X (ix2 t k)) (fun k e => Wg (ix2 k e)) e = (r : EReal) := fun e => by
    refine ⟨∑ k, a k * g (ix2 k e), ?_⟩
    unfold logit
    simp only [ha, hg, ← EReal.coe_mul]
    exact (map_sum (⟨⟨Real.toEReal, EReal.coe_zero⟩, EReal.coe_add⟩ : ℝ →+ EReal) _ _).symm
  obtain ⟨r, hr⟩ := hl (best _)
  rw [hr, ofBits_posInf, ← EReal.coe_neg]
  have hlt : max (r : EReal) ((-r : ℝ) : EReal) < ⊤ := max_lt (EReal.coe_lt_top _) (EReal.coe_lt_top _)
  show BitVec.ofBool (decide _) = 1#1
  rw [decide_eq_true hlt]
  rfl

end Cert.Route.Pre

end
-- ==== Proof.Equal.lean ====
/-
  The equation of the two programs: from the same arguments the kernel's result and the reference's are the same
  array, when every token's best logit is finite.
-/
module

public import proofs.«01_k».proof.Proof.KernelRun
public import proofs.«01_k».proof.Proof.RefValue

@[expose] public section

noncomputable section

namespace Cert.Route

open Idealize.ShloMosaic Idealize.ShloMosaic.TcCoe
open Cert.KernelIdeal

/-- The kernel's result and the reference's are the same function of the arguments. -/
theorem result_eq (m : (ℓ : Loc nD τ sig) → Buf (Elt Ideal) ℓ) (c : Dev nD)
    (hfin : ∀ s, Finite (Run.row (Run.flat m c) (m ((c.tc : Thread nD τ).loc main_arg1)) s)) :
    Ref.out (m ((c.tc : Thread nD τ).loc main_arg0)) (m ((c.tc : Thread nD τ).loc main_arg1))
      (m ((c.tc : Thread nD τ).loc main_arg2)) (m ((c.tc : Thread nD τ).loc main_arg3)) = Run.result m c := by
  have h : Ref.rows (Run.flat m c) (m ((c.tc : Thread nD τ).loc main_arg1)) (m ((c.tc : Thread nD τ).loc main_arg2))
      (m ((c.tc : Thread nD τ).loc main_arg3)) = Run.whole m c := by
    funext i
    obtain ⟨t, d, rfl⟩ : ∃ (t : Fin 4096) (d : Fin 1024), i = ix2 t d := ⟨i 0, i 1, by funext a; fin_cases a <;> rfl⟩
    exact Ref.rows_at _ _ _ _ t d (hfin t)
  exact congrArg (fun v : FVec Ideal S4096x1024 .f32 => shapeCast S2x2048x1024 v _) h

end Cert.Route

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_top_logit
public import proofs.«01_k».proof.Proof.KernelRun
public import proofs.«01_k».proof.Proof.RefValue
public import proofs.«01_k».proof.Proof.Pre
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments unchanged and ends with every semaphore counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2, sem_eq_zero_of_no_sems (by decide) r.2⟩)
    (Cert.ReferenceIdeal.Value.run (F := Ideal) m g)

/-- Where every token's largest logit is finite, the kernel and the reference end with the same result. -/
theorem same_result : Cert.algebraic_KernelIdeal_ReferenceIdeal_pre_finite_top_logit := by
  intro m g m' g' hpre hargs
  have hfin : ∀ c s, Cert.Route.Finite (Cert.Route.Run.row (Cert.Route.Run.flat m c)
      (m ((c.tc : Thread Cert.KernelIdeal.nD Cert.KernelIdeal.τ).loc Cert.KernelIdeal.main_arg1)) s) :=
    fun c s => Cert.Route.Pre.finite _ _ _ _ (hpre c) s
  refine ⟨Cert.Route.Run.result m, ?_, ?_⟩
  · exact (θ_run _ _ _).mono (fun _ h c => ⟨h.1 c, h.2 c⟩)
      (θ_run_and (Cert.Route.Run.run m g hfin) (Cert.KernelIdeal.Gen.unchanged m g))
  · refine (θ_run _ _ _).mono (fun r h c => ⟨(h c).1.trans ?_, (h c).2⟩) (Cert.Route.Ref.run m' g')
    obtain ⟨h0, h1, h2, h3⟩ := hargs c
    rw [h0, h1, h2, h3]
    exact Cert.Route.result_eq m c (hfin c)

/-- All the claims of the certificate. -/
theorem claim : Cert.Claim :=
  ⟨Cert.Kernel.Gen.facts, Cert.KernelIdeal.Gen.facts, Cert.ReferenceIdeal.Gen.facts, Cert.Pre_finite_top_logit.Gen.facts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    trivial,
    same_result⟩

end Cert.Proof

end
